-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S8 : Shape := ⟨1, ![8]⟩
abbrev S16384x1 : Shape := ⟨2, ![16384, 1]⟩
abbrev S8x2048x2048 : Shape := ⟨3, ![8, 2048, 2048]⟩
abbrev S8x1024x2048 : Shape := ⟨3, ![8, 1024, 2048]⟩
abbrev S8x2048x1 : Shape := ⟨3, ![8, 2048, 1]⟩
abbrev S1x512x2048 : Shape := ⟨3, ![1, 512, 2048]⟩
abbrev S1x512x1 : Shape := ⟨3, ![1, 512, 1]⟩
abbrev S1x2048x512 : Shape := ⟨3, ![1, 2048, 512]⟩
abbrev S1x256x2048 : Shape := ⟨3, ![1, 256, 2048]⟩
abbrev S2x2048x1024 : Shape := ⟨3, ![2, 2048, 1024]⟩
abbrev S2x1024x2048 : Shape := ⟨3, ![2, 1024, 2048]⟩
abbrev S2048x512 : Shape := ⟨2, ![2048, 512]⟩
abbrev S512x256 : Shape := ⟨2, ![512, 256]⟩
abbrev S2048x256 : Shape := ⟨2, ![2048, 256]⟩
abbrev S1x2048x256 : Shape := ⟨3, ![1, 2048, 256]⟩
abbrev S256x2048 : Shape := ⟨2, ![256, 2048]⟩
abbrev S512x2048 : Shape := ⟨2, ![512, 2048]⟩
abbrev S1x2048x1024 : Shape := ⟨3, ![1, 2048, 1024]⟩
abbrev S2048x1024 : Shape := ⟨2, ![2048, 1024]⟩
abbrev S512x1024 : Shape := ⟨2, ![512, 1024]⟩
abbrev S512x1 : Shape := ⟨2, ![512, 1]⟩
abbrev S1x1024x2048 : Shape := ⟨3, ![1, 1024, 2048]⟩
abbrev S1024x2048 : Shape := ⟨2, ![1024, 2048]⟩

abbrev nBuf : Space → Nat
  | .hbm => 9
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S16384x1, .f32⟩
  | .hbm, ⟨3, _⟩ => ⟨S8x2048x2048, .f32⟩
  | .hbm, ⟨4, _⟩ => ⟨S8x1024x2048, .f32⟩
  | .hbm, ⟨5, _⟩ => ⟨S8x2048x2048, .f32⟩
  | .hbm, ⟨6, _⟩ => ⟨S8x2048x1, .f32⟩
  | .hbm, ⟨7, _⟩ => ⟨S8x2048x2048, .f32⟩
  | .hbm, ⟨8, _⟩ => ⟨S16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1, .f32⟩
  | .local _ .vmem, ⟨3, _⟩ => ⟨S1x512x1, .f32⟩
  | .local _ .vmem, ⟨4, _⟩ => ⟨S1x2048x512, .f32⟩
  | .local _ .vmem, ⟨5, _⟩ => ⟨S1x2048x512, .f32⟩
  | .local _ .vmem, ⟨6, _⟩ => ⟨S1x256x2048, .f32⟩
  | .local _ .vmem, ⟨7, _⟩ => ⟨S1x256x2048, .f32⟩
  | .local _ .vmem, ⟨8, _⟩ => ⟨S1x512x2048, .f32⟩
  | .local _ .vmem, ⟨9, _⟩ => ⟨S1x512x2048, .f32⟩
  | .local _ .vmem, ⟨10, _⟩ => ⟨S2x2048x1024, .bf16⟩
  | .local _ .vmem, ⟨11, _⟩ => ⟨S2x2048x1024, .bf16⟩
  | .local _ .vmem, ⟨12, _⟩ => ⟨S2x1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg0 : BitVec 32 := BitVec.ofNat 32 (i 0).val
  let c8_i32 : BitVec 32 := 8#32
  let v4 : BitVec 1 := Scalar.cmpi .slt arg0 c8_i32
  let arg1 : BitVec 32 := BitVec.ofNat 32 (i 1).val
  let c4_i32 : BitVec 32 := 4#32
  let v5 : BitVec 1 := Scalar.cmpi .slt arg1 c4_i32
  let v6 : BitVec 1 := Scalar.andi v4 v5
  let v7 : BitVec 32 := Scalar.extui v6
  let c0_i32_1 : BitVec 32 := 0#32
  let v8 : BitVec 1 := Scalar.cmpi .ne v7 c0_i32_1
  v8

def k0_off1 (i : grid0.Coords) : Fin 3 → Nat :=
  let arg0 : BitVec 32 := BitVec.ofNat 32 (i 0).val
  let c2_i32 : BitVec 32 := 2#32
  let v0 : BitVec 32 := Scalar.remsi arg0 c2_i32
  let v39 : Index := Scalar.indexCast v0
  let c0_12 : Index := 0#32
  let arg1 : BitVec 32 := BitVec.ofNat 32 (i 1).val
  let c256_i32 : BitVec 32 := 256#32
  let v36 : BitVec 32 := Scalar.muli arg1 c256_i32
  let v40 : Index := Scalar.indexCast v36
  ![v39.toNat, 0, v40.toNat]
def k0_cond2 (i : grid0.Coords) : BitVec 1 :=
  let arg0 : BitVec 32 := BitVec.ofNat 32 (i 0).val
  let c8_i32_2 : BitVec 32 := 8#32
  let v9 : BitVec 1 := Scalar.cmpi .slt arg0 c8_i32_2
  let arg1 : BitVec 32 := BitVec.ofNat 32 (i 1).val
  let c4_i32_3 : BitVec 32 := 4#32
  let v10 : BitVec 1 := Scalar.cmpi .slt arg1 c4_i32_3
  let v11 : BitVec 1 := Scalar.andi v9 v10
  let v12 : BitVec 32 := Scalar.extui v11
  let c0_i32_4 : BitVec 32 := 0#32
  let v13 : BitVec 1 := Scalar.cmpi .ne v12 c0_i32_4
  v13

def k0_off2 (i : grid0.Coords) : Fin 3 → Nat :=
  let arg0 : BitVec 32 := BitVec.ofNat 32 (i 0).val
  let c2_i32 : BitVec 32 := 2#32
  let v0 : BitVec 32 := Scalar.remsi arg0 c2_i32
  let v21 : Index := Scalar.indexCast v0
  let arg1 : BitVec 32 := BitVec.ofNat 32 (i 1).val
  let c256_i32 : BitVec 32 := 256#32
  let v20 : BitVec 32 := Scalar.muli arg1 c256_i32
  let v22 : Index := Scalar.indexCast v20
  let c0_9 : Index := 0#32
  ![v21.toNat, v22.toNat, 0]
def k0_cond3 (i : grid0.Coords) : BitVec 1 :=
  let arg0 : BitVec 32 := BitVec.ofNat 32 (i 0).val
  let c1_i32_5 : BitVec 32 := 1#32
  let v14 : BitVec 1 := Scalar.cmpi .sge arg0 c1_i32_5
  let v15 : BitVec 32 := Scalar.extui v14
  let c0_i32_6 : BitVec 32 := 0#32
  let v16 : BitVec 1 := Scalar.cmpi .ne v15 c0_i32_6
  v16

def k0_off3 (i : grid0.Coords) : Fin 3 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c2_i32_0 : BitVec 32 := 2#32
  let v3 : BitVec 32 := Scalar.remsi v2 c2_i32_0
  let v20 : Index := Scalar.indexCast v3
  let c0_9 : Index := 0#32
  let c0_10 : Index := 0#32
  ![v20.toNat, 0, 0]
def k0_off4 (i : grid0.Coords) : Fin 3 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c2_i32_0 : BitVec 32 := 2#32
  let v3 : BitVec 32 := Scalar.remsi v2 c2_i32_0
  let v46 : Index := Scalar.indexCast v3
  let c0_22 : Index := 0#32
  let c0_23 : Index := 0#32
  ![v46.toNat, 0, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg0 c8_i32
  let c0_i32 : BitVec 32 := 0#32
  let c3_i32 : BitVec 32 := 3#32
  let v1 : BitVec 32 := Scalar.maxsi c0_i32 arg1
  let v2 : BitVec 32 := Scalar.minsi c3_i32 v1
  let c3_i32_0 : BitVec 32 := 3#32
  let v3 : BitVec 32 := Scalar.select v0 c3_i32_0 v2
  let c7_i32 : BitVec 32 := 7#32
  let v4 : BitVec 32 := Scalar.minsi arg0 c7_i32
  let c0_i32_1 : BitVec 32 := 0#32
  let c0_i32_2 : BitVec 32 := 0#32
  ![v4.toNat, c0_i32_1.toNat, v3.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg0 c8_i32
  let c0_i32 : BitVec 32 := 0#32
  let c3_i32 : BitVec 32 := 3#32
  let v1 : BitVec 32 := Scalar.maxsi c0_i32 arg1
  let v2 : BitVec 32 := Scalar.minsi c3_i32 v1
  let c3_i32_0 : BitVec 32 := 3#32
  let v3 : BitVec 32 := Scalar.select v0 c3_i32_0 v2
  let c7_i32 : BitVec 32 := 7#32
  let v4 : BitVec 32 := Scalar.minsi arg0 c7_i32
  let c0_i32_1 : BitVec 32 := 0#32
  let c0_i32_2 : BitVec 32 := 0#32
  ![v4.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x2048 : Shape := ⟨2, ![16384, 2048]⟩
abbrev S8 : Shape := ⟨1, ![8]⟩
abbrev S16384x1 : Shape := ⟨2, ![16384, 1]⟩
abbrev S8x2048x2048 : Shape := ⟨3, ![8, 2048, 2048]⟩
abbrev S8x1024x2048 : Shape := ⟨3, ![8, 1024, 2048]⟩
abbrev S8x2048x1 : Shape := ⟨3, ![8, 2048, 1]⟩
abbrev S8x2048x1024 : Shape := ⟨3, ![8, 2048, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S16384x1, .f32⟩
  | .hbm, ⟨3, _⟩ => ⟨S8x2048x2048, .f32⟩
  | .hbm, ⟨4, _⟩ => ⟨S8x1024x2048, .f32⟩
  | .hbm, ⟨5, _⟩ => ⟨S8x2048x2048, .f32⟩
  | .hbm, ⟨6, _⟩ => ⟨S8x2048x1, .f32⟩
  | .hbm, ⟨7, _⟩ => ⟨S8x2048x2048, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x2048, .f32⟩
  | .hbm, ⟨40, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Proof.Banks.lean ====
/-
  The kernel's banks as plain vectors: what putting one quarter into a bank and taking a whole bank out mean.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.VecWindow
public import Idealize.ShloMosaic.Lib.Tactic

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The banks' contents as plain vectors -/

/-- A gate or up bank pair `d` with quarter `q` of bank `b` replaced by the columns `w`. -/
def putCols (d : Vec F S2x2048x1024 .bf16) (b q : ℕ) (w : Vec F S1x2048x256 .bf16) : Vec F S2x2048x1024 .bf16 :=
  VecWindow.put (s := S2x2048x1024) d ![b, 0, 256 * q] S1x2048x256.size w

/-- The second weight's bank pair `d` with quarter `q` of bank `b` replaced by the rows `w`. -/
def putRows (d : Vec F S2x1024x2048 .bf16) (b q : ℕ) (w : Vec F S1x256x2048 .bf16) : Vec F S2x1024x2048 .bf16 :=
  VecWindow.put (s := S2x1024x2048) d ![b, 256 * q, 0] S1x256x2048.size w

/-- Bank `b` lies within a gate or up bank pair. -/
theorem colsFit {b : ℕ} (hb : b < 2) : ∀ a, (![b, 0, 0] : Fin 3 → ℕ) a + S1x2048x1024.size a ≤ S2x2048x1024.size a := fun a => by
  fin_cases a
  · show b + 1 ≤ 2; omega
  · show 0 + 2048 ≤ 2048; omega
  · show 0 + 1024 ≤ 1024; omega

/-- Bank `b` lies within the second weight's bank pair. -/
theorem rowsFit {b : ℕ} (hb : b < 2) : ∀ a, (![b, 0, 0] : Fin 3 → ℕ) a + S1x1024x2048.size a ≤ S2x1024x2048.size a := fun a => by
  fin_cases a
  · show b + 1 ≤ 2; omega
  · show 0 + 1024 ≤ 1024; omega
  · show 0 + 2048 ≤ 2048; omega

/-- Bank `b` of a gate or up bank pair. -/
def getCols (d : Vec F S2x2048x1024 .bf16) (b : ℕ) (hb : b < 2) : Vec F S1x2048x1024 .bf16 :=
  VecWindow.window (s := S2x2048x1024) d ![b, 0, 0] S1x2048x1024.size (colsFit hb)

/-- Bank `b` of the second weight's bank pair. -/
def getRows (d : Vec F S2x1024x2048 .bf16) (b : ℕ) (hb : b < 2) : Vec F S1x1024x2048 .bf16 :=
  VecWindow.window (s := S2x1024x2048) d ![b, 0, 0] S1x1024x2048.size (rowsFit hb)

/-- Of two numbers summing to one, the second is below two. -/
theorem lt_of_pair {b b' : ℕ} (h : b + b' = 1) : b' < 2 := by omega

end Cert.KernelIdeal.Body

end
-- ==== Proof.Body.lean ====
/-
  A grid point that fills a quarter of a bank and computes a tile of rows, as a triple. The body has three parts: cut one
  quarter of an expert's first weight into its gate and up columns and put both into the banks, put one quarter of the
  second weight into its bank, and compute one tile of rows from a filled bank. A grid point runs the first two
  (BodyFill.lean), all three (here), or only the last (BodyTile.lean).
-/
module

public import proofs.«01_k».proof.Proof.Banks

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point that both fills a quarter and computes: the banks end with the quarter put in, and the output block holds
the tile computed from the banks so filled. -/
theorem runBoth (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x2048x512 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S2x2048x1024 .bf16) (harg7 : arg7.IsWhole) (arg8 : Memref sig .tc .vmem S2x2048x1024 .bf16) (harg8 : arg8.IsWhole) (arg9 : Memref sig .tc .vmem S2x1024x2048 .bf16) (harg9 : arg9.IsWhole) (hc0 : k0_cond1 i = 1#1) (hc1 : k0_cond2 i = 1#1) (hc2 : k0_cond3 i = 1#1)
    (b b' q : ℕ) (hb : b' < 2) (ho1 : k0_off1 i = ![b, 0, 256 * q]) (ho2 : k0_off2 i = ![b, 256 * q, 0]) (ho3 : k0_off3 i = ![b', 0, 0]) (ho4 : k0_off4 i = ![b', 0, 0])
    (x0 : Vec F S1x512x2048 .f32) (x1 : Vec F S1x512x1 .f32) (x2 : Vec F S1x2048x512 .f32) (x3 : Vec F S1x256x2048 .f32)
    (d0 d1 : Vec F S2x2048x1024 .bf16) (d2 : Vec F S2x1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d0 ∗ owns (c : Thread nD τ) arg8 fullShare d1 ∗ owns (c : Thread nD τ) arg9 fullShare d2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay5 x0 (getCols (putCols d0 b q (k0_pay2 x2)) b' hb) (getCols (putCols d1 b q (k0_pay3 x2)) b' hb) x1 (getRows (putRows d2 b q (k0_pay4 x3)) b' hb))
                ∗ owns (c : Thread nD τ) arg7 fullShare (putCols d0 b q (k0_pay2 x2)) ∗ owns (c : Thread nD τ) arg8 fullShare (putCols d1 b q (k0_pay3 x2)) ∗ owns (c : Thread nD τ) arg9 fullShare (putRows d2 b q (k0_pay4 x3))) -∗ K ⟨⟩))
          ⊢ wp frame (wpE (defs₀ (F := F)) Variants.none c none) E (cc0__moe_body i arg2 harg2 arg3 harg3 arg4 harg4 arg5 harg5 arg6 harg6 arg7 harg7 arg8 harg8 arg9 harg9) K := by
    intro E K
    letI : ClosedOff (k0_off1 i) := ⟨_, ho1⟩; letI : ClosedOff (k0_off2 i) := ⟨_, ho2⟩; letI : ClosedOff (k0_off3 i) := ⟨_, ho3⟩; letI : ClosedOff (k0_off4 i) := ⟨_, ho4⟩
    simp only [cc0__moe_body_eq_skeleton]; unfold cc0__moe_body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3
    obtain rfl := harg7.eq_unread hs0; obtain rfl := harg8.eq_unread hs1; obtain rfl := harg9.eq_unread hs2
    sl_exec (disch := first | sl_exact hc0 | sl_exact hc1 | sl_exact hc2)
    sl_step
    have r2 : ∀ h, View.readAt (Elt F) arg4.view (Rect.unit (s := S1x2048x512) ![0, 0, 0] S1x2048x512.size h).toLoadRect (harg4.unread x2) = x2 := fun h =>
      (View.readAt_full arg4.view _ h).trans (harg4.read_unread x2)
    have r3 : ∀ h, View.readAt (Elt F) arg5.view (Rect.unit (s := S1x256x2048) ![0, 0, 0] S1x256x2048.size h).toLoadRect (harg5.unread x3) = x3 := fun h =>
      (View.readAt_full arg5.view _ h).trans (harg5.read_unread x3)
    have r0 : ∀ h, View.readAt (Elt F) arg2.view (Rect.unit (s := S1x512x2048) ![0, 0, 0] S1x512x2048.size h).toLoadRect (harg2.unread x0) = x0 := fun h =>
      (View.readAt_full arg2.view _ h).trans (harg2.read_unread x0)
    have r1 : ∀ h, View.readAt (Elt F) arg3.view (Rect.unit (s := S1x512x1) ![0, 0, 0] S1x512x1.size h).toLoadRect (harg3.unread x1) = x1 := fun h =>
      (View.readAt_full arg3.view _ h).trans (harg3.read_unread x1)
    have p0 : arg7.view.read (Elt F) (arg7.view.writes (Elt F) (harg7.unread d0) (runBoth.sl.HS0_1 c i arg4 harg4 hc0 x2)) = putCols d0 b q (k0_pay2 x2) := by
      unfold runBoth.sl.HS0_1 putCols
      rw [View.read_writes_cons_put (h := ho1), View.writes_nil, harg7.read_unread, r2]
    have p1 : arg8.view.read (Elt F) (arg8.view.writes (Elt F) (harg8.unread d1) (runBoth.sl.HS1_1 c i arg4 harg4 hc0 x2)) = putCols d1 b q (k0_pay3 x2) := by
      unfold runBoth.sl.HS1_1 putCols
      rw [View.read_writes_cons_put (h := ho1), View.writes_nil, harg8.read_unread, r2]
    have p2 : arg9.view.read (Elt F) (arg9.view.writes (Elt F) (harg9.unread d2) (runBoth.sl.HS2_1 c i arg5 harg5 hc1 x3)) = putRows d2 b q (k0_pay4 x3) := by
      unfold runBoth.sl.HS2_1 putRows
      rw [View.read_writes_cons_put (h := ho2), View.writes_nil, harg9.read_unread, r3]
    iapply Hk
    isplitl [H0]; · iexists _; isplitr; · ipureintro; exact harg2.read_unread x0
                    iexact H0
    isplitl [H1]; · iexists _; isplitr; · ipureintro; exact harg3.read_unread x1
                    iexact H1
    isplitl [H2]; · iexists _; isplitr; · ipureintro; exact harg4.read_unread x2
                    iexact H2
    isplitl [H3]; · iexists _; isplitr; · ipureintro; exact harg5.read_unread x3
                    iexact H3
    isplitl [H4]
    · iexists _
      isplitr
      rotate_left
      · iexact H4
      ipureintro
      rw [View.read_writes_full, r0, r1, View.readAt_unit (h := ho3) (inb' := colsFit hb), View.readAt_unit (h := ho3) (inb' := colsFit hb), View.readAt_unit (h := ho4) (inb' := rowsFit hb), p0, p1, p2]
      rfl
    isplitl [HS0]; · iexists _; isplitr; · ipureintro; exact p0
                     iexact HS0
    isplitl [HS1]; · iexists _; isplitr; · ipureintro; exact p1
                     iexact HS1
    iexists _; isplitr; · ipureintro; exact p2
    iexact HS2

end Cert.KernelIdeal.Body

end
-- ==== Proof.BodyFill.lean ====
/-
  A grid point that only fills one quarter of each bank (the first expert's: nothing is computed yet), as a triple.
-/
module

public import proofs.«01_k».proof.Proof.Banks

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point that only fills a quarter: the banks end with the quarter put in, and the output block is untouched. -/
theorem runFill (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x2048x512 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S2x2048x1024 .bf16) (harg7 : arg7.IsWhole) (arg8 : Memref sig .tc .vmem S2x2048x1024 .bf16) (harg8 : arg8.IsWhole) (arg9 : Memref sig .tc .vmem S2x1024x2048 .bf16) (harg9 : arg9.IsWhole) (hc0 : k0_cond1 i = 1#1) (hc1 : k0_cond2 i = 1#1) (hc2 : ¬ k0_cond3 i = 1#1)
    (b q : ℕ) (ho1 : k0_off1 i = ![b, 0, 256 * q]) (ho2 : k0_off2 i = ![b, 256 * q, 0])
    (x0 : Vec F S1x512x2048 .f32) (x1 : Vec F S1x512x1 .f32) (x2 : Vec F S1x2048x512 .f32) (x3 : Vec F S1x256x2048 .f32)
    (x4 : Vec F S1x512x2048 .f32) (d0 d1 : Vec F S2x2048x1024 .bf16) (d2 : Vec F S2x1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d0 ∗ owns (c : Thread nD τ) arg8 fullShare d1 ∗ owns (c : Thread nD τ) arg9 fullShare d2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4
                ∗ owns (c : Thread nD τ) arg7 fullShare (putCols d0 b q (k0_pay2 x2)) ∗ owns (c : Thread nD τ) arg8 fullShare (putCols d1 b q (k0_pay3 x2)) ∗ owns (c : Thread nD τ) arg9 fullShare (putRows d2 b q (k0_pay4 x3))) -∗ K ⟨⟩))
          ⊢ wp frame (wpE (defs₀ (F := F)) Variants.none c none) E (cc0__moe_body i arg2 harg2 arg3 harg3 arg4 harg4 arg5 harg5 arg6 harg6 arg7 harg7 arg8 harg8 arg9 harg9) K := by
    intro E K
    letI : ClosedOff (k0_off1 i) := ⟨_, ho1⟩; letI : ClosedOff (k0_off2 i) := ⟨_, ho2⟩
    simp only [cc0__moe_body_eq_skeleton]; unfold cc0__moe_body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hs0; obtain rfl := harg8.eq_unread hs1; obtain rfl := harg9.eq_unread hs2
    sl_exec (disch := first | sl_exact hc0 | sl_exact hc1 | sl_exact hc2)
    sl_step
    have r2 : ∀ h, View.readAt (Elt F) arg4.view (Rect.unit (s := S1x2048x512) ![0, 0, 0] S1x2048x512.size h).toLoadRect (harg4.unread x2) = x2 := fun h =>
      (View.readAt_full arg4.view _ h).trans (harg4.read_unread x2)
    have r3 : ∀ h, View.readAt (Elt F) arg5.view (Rect.unit (s := S1x256x2048) ![0, 0, 0] S1x256x2048.size h).toLoadRect (harg5.unread x3) = x3 := fun h =>
      (View.readAt_full arg5.view _ h).trans (harg5.read_unread x3)
    iapply Hk
    isplitl [H0]; · iexists _; isplitr; · ipureintro; exact harg2.read_unread x0
                    iexact H0
    isplitl [H1]; · iexists _; isplitr; · ipureintro; exact harg3.read_unread x1
                    iexact H1
    isplitl [H2]; · iexists _; isplitr; · ipureintro; exact harg4.read_unread x2
                    iexact H2
    isplitl [H3]; · iexists _; isplitr; · ipureintro; exact harg5.read_unread x3
                    iexact H3
    isplitl [H4]; · iexists _; isplitr; · ipureintro; exact harg6.read_unread x4
                    iexact H4
    isplitl [HS0]
    · iexists _
      isplitr
      rotate_left
      · iexact HS0
      ipureintro
      rw [View.read_writes_cons_put (h := ho1), View.writes_nil, harg7.read_unread, r2]
      rfl
    isplitl [HS1]
    · iexists _
      isplitr
      rotate_left
      · iexact HS1
      ipureintro
      rw [View.read_writes_cons_put (h := ho1), View.writes_nil, harg8.read_unread, r2]
      rfl
    iexists _
    isplitr
    rotate_left
    · iexact HS2
    ipureintro
    rw [View.read_writes_cons_put (h := ho2), View.writes_nil, harg9.read_unread, r3]
    rfl

end Cert.KernelIdeal.Body

end
-- ==== Proof.BodyTile.lean ====
/-
  A grid point that only computes a tile of rows (the last expert's: nothing is left to fill), as a triple.
-/
module

public import proofs.«01_k».proof.Proof.Banks

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point that only computes: the banks end as they were, and the output block holds the tile computed from them. -/
theorem runTile (c : Dev nD) (i : grid0.Coords) (arg2 : Memref sig .tc .vmem S1x512x2048 .f32) (harg2 : arg2.IsWhole) (arg3 : Memref sig .tc .vmem S1x512x1 .f32) (harg3 : arg3.IsWhole) (arg4 : Memref sig .tc .vmem S1x2048x512 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S2x2048x1024 .bf16) (harg7 : arg7.IsWhole) (arg8 : Memref sig .tc .vmem S2x2048x1024 .bf16) (harg8 : arg8.IsWhole) (arg9 : Memref sig .tc .vmem S2x1024x2048 .bf16) (harg9 : arg9.IsWhole) (hc0 : ¬ k0_cond1 i = 1#1) (hc1 : ¬ k0_cond2 i = 1#1) (hc2 : k0_cond3 i = 1#1)
    (b' : ℕ) (hb : b' < 2) (ho3 : k0_off3 i = ![b', 0, 0]) (ho4 : k0_off4 i = ![b', 0, 0])
    (x0 : Vec F S1x512x2048 .f32) (x1 : Vec F S1x512x1 .f32) (x2 : Vec F S1x2048x512 .f32) (x3 : Vec F S1x256x2048 .f32)
    (d0 d1 : Vec F S2x2048x1024 .bf16) (d2 : Vec F S2x1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d0 ∗ owns (c : Thread nD τ) arg8 fullShare d1 ∗ owns (c : Thread nD τ) arg9 fullShare d2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay5 x0 (getCols d0 b' hb) (getCols d1 b' hb) x1 (getRows d2 b' hb))
                ∗ owns (c : Thread nD τ) arg7 fullShare d0 ∗ owns (c : Thread nD τ) arg8 fullShare d1 ∗ owns (c : Thread nD τ) arg9 fullShare d2) -∗ K ⟨⟩))
          ⊢ wp frame (wpE (defs₀ (F := F)) Variants.none c none) E (cc0__moe_body i arg2 harg2 arg3 harg3 arg4 harg4 arg5 harg5 arg6 harg6 arg7 harg7 arg8 harg8 arg9 harg9) K := by
    intro E K
    letI : ClosedOff (k0_off3 i) := ⟨_, ho3⟩; letI : ClosedOff (k0_off4 i) := ⟨_, ho4⟩
    simp only [cc0__moe_body_eq_skeleton]; unfold cc0__moe_body_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3
    obtain rfl := harg7.eq_unread hs0; obtain rfl := harg8.eq_unread hs1; obtain rfl := harg9.eq_unread hs2
    sl_exec (disch := first | sl_exact hc0 | sl_exact hc1 | sl_exact hc2)
    sl_step
    have r0 : ∀ h, View.readAt (Elt F) arg2.view (Rect.unit (s := S1x512x2048) ![0, 0, 0] S1x512x2048.size h).toLoadRect (harg2.unread x0) = x0 := fun h =>
      (View.readAt_full arg2.view _ h).trans (harg2.read_unread x0)
    have r1 : ∀ h, View.readAt (Elt F) arg3.view (Rect.unit (s := S1x512x1) ![0, 0, 0] S1x512x1.size h).toLoadRect (harg3.unread x1) = x1 := fun h =>
      (View.readAt_full arg3.view _ h).trans (harg3.read_unread x1)
    iapply Hk
    isplitl [H0]; · iexists _; isplitr; · ipureintro; exact harg2.read_unread x0
                    iexact H0
    isplitl [H1]; · iexists _; isplitr; · ipureintro; exact harg3.read_unread x1
                    iexact H1
    isplitl [H2]; · iexists _; isplitr; · ipureintro; exact harg4.read_unread x2
                    iexact H2
    isplitl [H3]; · iexists _; isplitr; · ipureintro; exact harg5.read_unread x3
                    iexact H3
    isplitl [H4]
    · iexists _
      isplitr
      rotate_left
      · iexact H4
      ipureintro
      rw [View.read_writes_full, r0, r1, View.readAt_unit (h := ho3) (inb' := colsFit hb), View.readAt_unit (h := ho3) (inb' := colsFit hb), View.readAt_unit (h := ho4) (inb' := rowsFit hb), harg7.read_unread, harg8.read_unread, harg9.read_unread]
      rfl
    isplitl [HS0]; · iexists _; isplitr; · ipureintro; exact harg7.read_unread d0
                     iexact HS0
    isplitl [HS1]; · iexists _; isplitr; · ipureintro; exact harg8.read_unread d1
                     iexact HS1
    iexists _; isplitr; · ipureintro; exact harg9.read_unread d2
    iexact HS2

end Cert.KernelIdeal.Body

end
-- ==== Proof.Held.lean ====
/-
  What the banks hold between grid points. Point `k` below 32 fills quarter `k % 4` of bank `k / 4 % 2`, so the two banks
  together are a ring of eight quarters: after `t` points they hold the quarters of the last eight points.
-/
module

public import proofs.«01_k».proof.Proof.Banks
public import Idealize.ShloMosaic.Lib.Pointwise

@[expose] public section

set_option maxRecDepth 16384

noncomputable section

namespace Cert.KernelIdeal.Body

open Cert.KernelIdeal.Gen
open Idealize.ShloMosaic

variable {F : FTy → Type} [FloatOps F]

/-! ## Reading a bank after a put -/

/-- Under the quarter just put, a gate or up bank reads the columns put. -/
theorem putCols_hit (d : Vec F S2x2048x1024 .bf16) (b q : ℕ) (w : Vec F S1x2048x256 .bf16) (a : Fin 2) (i : Fin 2048) (j : Fin 1024)
    (ha : a.val = b) (hj : j.val / 256 = q) :
    putCols d b q w (ix3 a i j) = w (ix3 0 i ⟨j.val % 256, Nat.mod_lt _ (by decide)⟩) := by
  have h : ∀ x, (![b, 0, 256 * q] : Fin 3 → ℕ) x ≤ ((ix3 a i j : S2x2048x1024.Idx) x).val
      ∧ ((ix3 a i j : S2x2048x1024.Idx) x).val < (![b, 0, 256 * q] : Fin 3 → ℕ) x + S1x2048x256.size x := fun x => by
    have := i.isLt
    fin_cases x
    · show b ≤ a.val ∧ a.val < b + 1; omega
    · show 0 ≤ i.val ∧ i.val < 0 + 2048; omega
    · show 256 * q ≤ j.val ∧ j.val < 256 * q + 256; omega
  refine (dif_pos h).trans (congrArg w (funext fun x => Fin.ext ?_))
  fin_cases x
  · show a.val - b = 0; omega
  · show i.val - 0 = i.val; omega
  · show j.val - 256 * q = j.val % 256; omega

/-- Off the quarter just put, a gate or up bank reads what it held. -/
theorem putCols_miss (d : Vec F S2x2048x1024 .bf16) (b q : ℕ) (w : Vec F S1x2048x256 .bf16) (a : Fin 2) (i : Fin 2048) (j : Fin 1024)
    (h : a.val ≠ b ∨ j.val / 256 ≠ q) : putCols d b q w (ix3 a i j) = d (ix3 a i j) := by
  refine dif_neg fun hall => ?_
  have h0 : b ≤ a.val ∧ a.val < b + 1 := hall (0 : Fin 3)
  have h2 : 256 * q ≤ j.val ∧ j.val < 256 * q + 256 := hall (2 : Fin 3)
  omega

/-- Under the quarter just put, the second weight's bank reads the rows put. -/
theorem putRows_hit (d : Vec F S2x1024x2048 .bf16) (b q : ℕ) (w : Vec F S1x256x2048 .bf16) (a : Fin 2) (i : Fin 1024) (j : Fin 2048)
    (ha : a.val = b) (hi : i.val / 256 = q) :
    putRows d b q w (ix3 a i j) = w (ix3 0 ⟨i.val % 256, Nat.mod_lt _ (by decide)⟩ j) := by
  have h : ∀ x, (![b, 256 * q, 0] : Fin 3 → ℕ) x ≤ ((ix3 a i j : S2x1024x2048.Idx) x).val
      ∧ ((ix3 a i j : S2x1024x2048.Idx) x).val < (![b, 256 * q, 0] : Fin 3 → ℕ) x + S1x256x2048.size x := fun x => by
    have := j.isLt
    fin_cases x
    · show b ≤ a.val ∧ a.val < b + 1; omega
    · show 256 * q ≤ i.val ∧ i.val < 256 * q + 256; omega
    · show 0 ≤ j.val ∧ j.val < 0 + 2048; omega
  refine (dif_pos h).trans (congrArg w (funext fun x => Fin.ext ?_))
  fin_cases x
  · show a.val - b = 0; omega
  · show i.val - 256 * q = i.val % 256; omega
  · show j.val - 0 = j.val; omega

/-- Off the quarter just put, the second weight's bank reads what it held. -/
theorem putRows_miss (d : Vec F S2x1024x2048 .bf16) (b q : ℕ) (w : Vec F S1x256x2048 .bf16) (a : Fin 2) (i : Fin 1024) (j : Fin 2048)
    (h : a.val ≠ b ∨ i.val / 256 ≠ q) : putRows d b q w (ix3 a i j) = d (ix3 a i j) := by
  refine dif_neg fun hall => ?_
  have h0 : b ≤ a.val ∧ a.val < b + 1 := hall (0 : Fin 3)
  have h1 : 256 * q ≤ i.val ∧ i.val < 256 * q + 256 := hall (1 : Fin 3)
  omega

/-! ## The last eight quarters -/

/-- After `t` points a gate or up bank pair holds the columns `w k` of each of the last eight filling points `k`. -/
def ColsHeld (w : ℕ → Vec F S1x2048x256 .bf16) (t : ℕ) (d : Vec F S2x2048x1024 .bf16) : Prop :=
  ∀ k, k < 32 → k < t → t ≤ k + 8 → ∀ (a : Fin 2) (i : Fin 2048) (j : Fin 1024), a.val = k / 4 % 2 → j.val / 256 = k % 4 →
    d (ix3 a i j) = w k (ix3 0 i ⟨j.val % 256, Nat.mod_lt _ (by decide)⟩)

/-- After `t` points the second weight's bank pair holds the rows `w k` of each of the last eight filling points `k`. -/
def RowsHeld (w : ℕ → Vec F S1x256x2048 .bf16) (t : ℕ) (d : Vec F S2x1024x2048 .bf16) : Prop :=
  ∀ k, k < 32 → k < t → t ≤ k + 8 → ∀ (a : Fin 2) (i : Fin 1024) (j : Fin 2048), a.val = k / 4 % 2 → i.val / 256 = k % 4 →
    d (ix3 a i j) = w k (ix3 0 ⟨i.val % 256, Nat.mod_lt _ (by decide)⟩ j)

/-- Before any point a gate or up bank pair need hold nothing. -/
theorem ColsHeld.zero (w : ℕ → Vec F S1x2048x256 .bf16) (d : Vec F S2x2048x1024 .bf16) : ColsHeld w 0 d :=
  fun _ _ h => absurd h (Nat.not_lt_zero _)

/-- Before any point the second weight's bank pair need hold nothing. -/
theorem RowsHeld.zero (w : ℕ → Vec F S1x256x2048 .bf16) (d : Vec F S2x1024x2048 .bf16) : RowsHeld w 0 d :=
  fun _ _ h => absurd h (Nat.not_lt_zero _)

/-- Filling point `t`'s quarter keeps the invariant. -/
theorem ColsHeld.fill {w : ℕ → Vec F S1x2048x256 .bf16} {t : ℕ} {d : Vec F S2x2048x1024 .bf16} (h : ColsHeld w t d) :
    ColsHeld w (t + 1) (putCols d (t / 4 % 2) (t % 4) (w t)) := fun k hk hkt htk a i j ha hj => by
  by_cases e : k = t
  · subst e; exact putCols_hit d _ _ _ a i j ha hj
  · rw [putCols_miss d _ _ _ a i j (by omega)]
    exact h k hk (by omega) (by omega) a i j ha hj

/-- Filling point `t`'s rows keep the second weight's invariant. -/
theorem RowsHeld.fill {w : ℕ → Vec F S1x256x2048 .bf16} {t : ℕ} {d : Vec F S2x1024x2048 .bf16} (h : RowsHeld w t d) :
    RowsHeld w (t + 1) (putRows d (t / 4 % 2) (t % 4) (w t)) := fun k hk hkt htk a i j ha hi => by
  by_cases e : k = t
  · subst e; exact putRows_hit d _ _ _ a i j ha hi
  · rw [putRows_miss d _ _ _ a i j (by omega)]
    exact h k hk (by omega) (by omega) a i j ha hi

/-- From point 32 on nothing is filled, and the invariant is kept as it is. -/
theorem ColsHeld.keep {w : ℕ → Vec F S1x2048x256 .bf16} {t : ℕ} {d : Vec F S2x2048x1024 .bf16} (h : ColsHeld w t d) (ht : 32 ≤ t) :
    ColsHeld w (t + 1) d := fun k hk _ htk => h k hk (by omega) (by omega)

/-- From point 32 on the second weight's invariant is kept as it is. -/
theorem RowsHeld.keep {w : ℕ → Vec F S1x256x2048 .bf16} {t : ℕ} {d : Vec F S2x1024x2048 .bf16} (h : RowsHeld w t d) (ht : 32 ≤ t) :
    RowsHeld w (t + 1) d := fun k hk _ htk => h k hk (by omega) (by omega)

/-! ## A whole bank -/

/-- Expert `e`'s whole gate or up matrix, its four quarters side by side. -/
def wholeCols (w : ℕ → Vec F S1x2048x256 .bf16) (e : ℕ) : Vec F S1x2048x1024 .bf16 := fun y =>
  w (4 * e + (y (2 : Fin 3) : Fin 1024).val / 256) (ix3 0 (y (1 : Fin 3)) ⟨(y (2 : Fin 3) : Fin 1024).val % 256, Nat.mod_lt _ (by decide)⟩)

/-- Expert `e`'s whole second weight, its four quarters one under the other. -/
def wholeRows (w : ℕ → Vec F S1x256x2048 .bf16) (e : ℕ) : Vec F S1x1024x2048 .bf16 := fun y =>
  w (4 * e + (y (1 : Fin 3) : Fin 1024).val / 256) (ix3 0 ⟨(y (1 : Fin 3) : Fin 1024).val % 256, Nat.mod_lt _ (by decide)⟩ (y (2 : Fin 3)))

/-- While expert `e`'s rows are computed (points `4 e + 4` to `4 e + 7`) its bank holds its whole gate or up matrix. -/
theorem ColsHeld.whole {w : ℕ → Vec F S1x2048x256 .bf16} {t e : ℕ} {d : Vec F S2x2048x1024 .bf16} (h : ColsHeld w (t + 1) d)
    (he : e < 8) (h1 : 4 * e + 4 ≤ t) (h2 : t ≤ 4 * e + 7) (hb : e % 2 < 2) : getCols d (e % 2) hb = wholeCols w e := by
  funext y
  idx_vars y
  have hy := y2.isLt
  refine Eq.trans ?_ (h (4 * e + y2.val / 256) (by omega) (by omega) (by omega) ⟨e % 2, hb⟩ y1 y2 (by show e % 2 = _; omega) (by omega))
  refine congrArg d (funext fun x => Fin.ext ?_)
  fin_cases x
  · show e % 2 + 1 * y0.val = e % 2; omega
  · show 0 + 1 * y1.val = y1.val; omega
  · show 0 + 1 * y2.val = y2.val; omega

/-- While expert `e`'s rows are computed its bank holds its whole second weight. -/
theorem RowsHeld.whole {w : ℕ → Vec F S1x256x2048 .bf16} {t e : ℕ} {d : Vec F S2x1024x2048 .bf16} (h : RowsHeld w (t + 1) d)
    (he : e < 8) (h1 : 4 * e + 4 ≤ t) (h2 : t ≤ 4 * e + 7) (hb : e % 2 < 2) : getRows d (e % 2) hb = wholeRows w e := by
  funext y
  idx_vars y
  have hy := y1.isLt
  refine Eq.trans ?_ (h (4 * e + y1.val / 256) (by omega) (by omega) (by omega) ⟨e % 2, hb⟩ y1 y2 (by show e % 2 = _; omega) (by omega))
  refine congrArg d (funext fun x => Fin.ext ?_)
  fin_cases x
  · show e % 2 + 1 * y0.val = e % 2; omega
  · show 0 + 1 * y1.val = y1.val; omega
  · show 0 + 1 * y2.val = y2.val; omega

end Cert.KernelIdeal.Body

end
-- ==== Proof.Schedule.lean ====
/-
  The body's conditions and offsets at each of the 36 grid points, decided over the grid.
-/
module

public import proofs.«01_k».proof.Proof.Banks

@[expose] public section

set_option maxRecDepth 16384

noncomputable section

namespace Cert.KernelIdeal.Body

open Cert.KernelIdeal.Gen
open Idealize.ShloMosaic Idealize.ShloMosaic.TcCoe

/-- The first weight's quarter is taken in at the points before 32. -/
theorem fills1 : ∀ t : Fin cfg0.N, k0_cond1 (grid0.coords t) = 1#1 ↔ t.val < 32 :=
  (by decide +kernel : ∀ t : Fin grid0.N, k0_cond1 (grid0.coords t) = 1#1 ↔ t.val < 32)

/-- The second weight's quarter is taken in at the points before 32. -/
theorem fills2 : ∀ t : Fin cfg0.N, k0_cond2 (grid0.coords t) = 1#1 ↔ t.val < 32 :=
  (by decide +kernel : ∀ t : Fin grid0.N, k0_cond2 (grid0.coords t) = 1#1 ↔ t.val < 32)

/-- A tile is computed from point 4 on. -/
theorem computes : ∀ t : Fin cfg0.N, k0_cond3 (grid0.coords t) = 1#1 ↔ 4 ≤ t.val :=
  (by decide +kernel : ∀ t : Fin grid0.N, k0_cond3 (grid0.coords t) = 1#1 ↔ 4 ≤ t.val)

/-- Where point `t` puts its gate and up columns. -/
theorem off1_at : ∀ t : Fin cfg0.N, t.val < 32 → k0_off1 (grid0.coords t) = ![t.val / 4 % 2, 0, 256 * (t.val % 4)] :=
  (by decide +kernel : ∀ t : Fin grid0.N, t.val < 32 → k0_off1 (grid0.coords t) = ![t.val / 4 % 2, 0, 256 * (t.val % 4)])

/-- Where point `t` puts its rows of the second weight. -/
theorem off2_at : ∀ t : Fin cfg0.N, t.val < 32 → k0_off2 (grid0.coords t) = ![t.val / 4 % 2, 256 * (t.val % 4), 0] :=
  (by decide +kernel : ∀ t : Fin grid0.N, t.val < 32 → k0_off2 (grid0.coords t) = ![t.val / 4 % 2, 256 * (t.val % 4), 0])

/-- The gate and up bank point `t` computes from: that of the expert before. -/
theorem off3_at : ∀ t : Fin cfg0.N, 4 ≤ t.val → k0_off3 (grid0.coords t) = ![(t.val / 4 - 1) % 2, 0, 0] :=
  (by decide +kernel : ∀ t : Fin grid0.N, 4 ≤ t.val → k0_off3 (grid0.coords t) = ![(t.val / 4 - 1) % 2, 0, 0])

/-- The second weight's bank point `t` computes from. -/
theorem off4_at : ∀ t : Fin cfg0.N, 4 ≤ t.val → k0_off4 (grid0.coords t) = ![(t.val / 4 - 1) % 2, 0, 0] :=
  (by decide +kernel : ∀ t : Fin grid0.N, 4 ≤ t.val → k0_off4 (grid0.coords t) = ![(t.val / 4 - 1) % 2, 0, 0])

/-- No input is ever idle. -/
theorem live0 : ∀ t : Fin cfg0.N, cfg0.idle 0 (grid0.coords t) = false := fun _ => rfl
/-- The probabilities are never idle. -/
theorem live1 : ∀ t : Fin cfg0.N, cfg0.idle 1 (grid0.coords t) = false := fun _ => rfl
/-- The first weight is never idle. -/
theorem live2 : ∀ t : Fin cfg0.N, cfg0.idle 2 (grid0.coords t) = false := fun _ => rfl
/-- The second weight is never idle. -/
theorem live3 : ∀ t : Fin cfg0.N, cfg0.idle 3 (grid0.coords t) = false := fun _ => rfl

/-- The output is idle at the points before 4, -/
theorem idle4 : ∀ t : Fin cfg0.N, t.val < 4 → cfg0.idle 4 (grid0.coords t) = true :=
  (by decide +kernel : ∀ t : Fin grid0.N, t.val < 4 → cfg0.idle 4 (grid0.coords t) = true)

/-- written from point 4 on, -/
theorem live4 : ∀ t : Fin cfg0.N, 4 ≤ t.val → cfg0.idle 4 (grid0.coords t) = false :=
  (by decide +kernel : ∀ t : Fin grid0.N, 4 ≤ t.val → cfg0.idle 4 (grid0.coords t) = false)

/-- and written back at each of those points and at no other. -/
theorem flush4 : ∀ t : Fin cfg0.N, (cfg0.win 4).flush t = decide (4 ≤ t.val) :=
  (by decide +kernel : ∀ t : Fin grid0.N, (cfg0.win 4).flush t = decide (4 ≤ t.val))

/-- The grid has 36 points. -/
theorem points : cfg0.N = 36 := N_0

/-- Grid point `k` (of the first 36). -/
def pt (k : ℕ) : Fin cfg0.N := ⟨k % 36, (Nat.mod_lt _ (by decide)).trans_eq points.symm⟩

/-- A grid point is the one its number names. -/
theorem pt_val (t : Fin cfg0.N) : pt t.val = t := Fin.ext (Nat.mod_eq_of_lt (t.isLt.trans_eq points))

/-- Below 36 a grid point's number is the one that names it. -/
theorem pt_lt {k : ℕ} (h : k < 36) : (pt k).val = k := Nat.mod_eq_of_lt h

end Cert.KernelIdeal.Body

end
-- ==== Proof.Launch.lean ====
/-
  The whole run. Between grid points the banks hold the last eight quarters (Held.lean); each point keeps that and, from
  point 4 on, leaves its tile in the output block; so every execution of @main ends with the output array assembled from
  the tiles, the arguments as they were, and every semaphore at zero.
-/
module

public import proofs.«01_k».proof.Proof.Body
public import proofs.«01_k».proof.Proof.BodyFill
public import proofs.«01_k».proof.Proof.BodyTile
public import proofs.«01_k».proof.Proof.Held
public import proofs.«01_k».proof.Proof.Schedule
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the grid points compute -/

/-- The gate columns point `k` cuts out of its block of the first weight. -/
def gateAt (c : Dev nD) (k : ℕ) : Vec F S1x2048x256 .bf16 := k0_pay2 (iblk m c 2 (pt k))
/-- The up columns point `k` cuts out of its block of the first weight. -/
def upAt (c : Dev nD) (k : ℕ) : Vec F S1x2048x256 .bf16 := k0_pay3 (iblk m c 2 (pt k))
/-- The rows of the second weight point `k` takes in. -/
def downAt (c : Dev nD) (k : ℕ) : Vec F S1x256x2048 .bf16 := k0_pay4 (iblk m c 3 (pt k))

/-- The tile point `t` computes: its rows through the whole matrices of the expert before. -/
def tileAt (c : Dev nD) (t : Fin cfg0.N) : Vec F S1x512x2048 .f32 :=
  k0_pay5 (iblk m c 0 t) (wholeCols (gateAt m c) (t.val / 4 - 1)) (wholeCols (upAt m c) (t.val / 4 - 1)) (iblk m c 1 t)
    (wholeRows (downAt m c) (t.val / 4 - 1))

/-! ## The proof data -/

/-- The three bank pairs. -/
abbrev bankG : Memref sig .tc .vmem S2x2048x1024 .bf16 := Memref.whole cc0_scratch0
abbrev bankU : Memref sig .tc .vmem S2x2048x1024 .bf16 := Memref.whole cc0_scratch1
abbrev bankD : Memref sig .tc .vmem S2x1024x2048 .bf16 := Memref.whole cc0_scratch2

/-- Each window's staging buffer at point `t`. -/
abbrev buf0 (t : Fin cfg0.N) : Memref sig .tc .vmem S1x512x2048 .f32 := win0_0.stage (cfg0.slots t 0)
abbrev buf1 (t : Fin cfg0.N) : Memref sig .tc .vmem S1x512x1 .f32 := win0_1.stage (cfg0.slots t 1)
abbrev buf2 (t : Fin cfg0.N) : Memref sig .tc .vmem S1x2048x512 .f32 := win0_2.stage (cfg0.slots t 2)
abbrev buf3 (t : Fin cfg0.N) : Memref sig .tc .vmem S1x256x2048 .f32 := win0_3.stage (cfg0.slots t 3)
abbrev buf4 (t : Fin cfg0.N) : Memref sig .tc .vmem S1x512x2048 .f32 := win0_4.stage (cfg0.slots t 4)

/-- After `n` points: the banks hold the last eight points' quarters; the generator register is anything. -/
def banksAt (c : Dev nD) (n : ℕ) : sProp 𝕄 :=
  iprop((∃ d, ⌜ColsHeld (gateAt m c) n d⌝ ∗ owns (c : Thread nD τ) bankG fullShare d)
    ∗ (∃ d, ⌜ColsHeld (upAt m c) n d⌝ ∗ owns (c : Thread nD τ) bankU fullShare d)
    ∗ (∃ d, ⌜RowsHeld (downAt m c) n d⌝ ∗ owns (c : Thread nD τ) bankD fullShare d)
    ∗ (∃ r, prngReg c r))

/-- The arrays as the region finds them; after point `t` each input's buffer at its block and the output's at the tile;
the invariant `banksAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAt m c t
  Φ t := banksAt m c t.val
  q _ := fullShare
  owed _ := 0

/-- Each window's array is as the region finds it. -/
theorem A_eq (c : Dev nD) (w : Fin cfg0.W) : (dats m 0 c).A w = V m c (Pipeline.arrRef spec0 w) := by dsimp only [dats]

/-- After a point the tokens' buffer holds its block. -/
theorem after_0 (c : Dev nD) (t : Fin cfg0.N) : (dats m 0 c).after 0 t = iblk m c 0 t := by dsimp only [dats]
/-- After a point the probabilities' buffer holds its block. -/
theorem after_1 (c : Dev nD) (t : Fin cfg0.N) : (dats m 0 c).after 1 t = iblk m c 1 t := by dsimp only [dats]
/-- After a point the first weight's buffer holds its block. -/
theorem after_2 (c : Dev nD) (t : Fin cfg0.N) : (dats m 0 c).after 2 t = iblk m c 2 t := by dsimp only [dats]
/-- After a point the second weight's buffer holds its block. -/
theorem after_3 (c : Dev nD) (t : Fin cfg0.N) : (dats m 0 c).after 3 t = iblk m c 3 t := by dsimp only [dats]
/-- After a point the output's buffer holds the point's tile. -/
theorem after_4 (c : Dev nD) (t : Fin cfg0.N) : (dats m 0 c).after 4 t = tileAt m c t := by dsimp only [dats]

/-- Before a point the tokens' buffer holds its block. -/
theorem before_0 (c : Dev nD) (t : Fin cfg0.N) (d) : (dats m 0 c).before 0 t d = iblk m c 0 t :=
  before0_0_of m (dats m 0 c) (A_eq m c 0) (after_0 m c) t d
/-- Before a point the probabilities' buffer holds its block. -/
theorem before_1 (c : Dev nD) (t : Fin cfg0.N) (d) : (dats m 0 c).before 1 t d = iblk m c 1 t :=
  before0_1_of m (dats m 0 c) (A_eq m c 1) (after_1 m c) t d
/-- Before a point the first weight's buffer holds its block. -/
theorem before_2 (c : Dev nD) (t : Fin cfg0.N) (d) : (dats m 0 c).before 2 t d = iblk m c 2 t :=
  before0_2_of m (dats m 0 c) (A_eq m c 2) (after_2 m c) t d
/-- Before a point the second weight's buffer holds its block. -/
theorem before_3 (c : Dev nD) (t : Fin cfg0.N) (d) : (dats m 0 c).before 3 t d = iblk m c 3 t :=
  before0_3_of m (dats m 0 c) (A_eq m c 3) (after_3 m c) t d

/-- A point leaves the tokens' buffer at its block. -/
theorem leaves_0 (c : Dev nD) (t : Fin cfg0.N) :
    (dats m 0 c).leavesExact 0 t = owns (c : Thread nD τ) (buf0 t) fullShare (iblk m c 0 t) := by
  unfold Dat.leavesExact; rw [live0 t, after_0]
/-- A point leaves the probabilities' buffer at its block. -/
theorem leaves_1 (c : Dev nD) (t : Fin cfg0.N) :
    (dats m 0 c).leavesExact 1 t = owns (c : Thread nD τ) (buf1 t) fullShare (iblk m c 1 t) := by
  unfold Dat.leavesExact; rw [live1 t, after_1]
/-- A point leaves the first weight's buffer at its block. -/
theorem leaves_2 (c : Dev nD) (t : Fin cfg0.N) :
    (dats m 0 c).leavesExact 2 t = owns (c : Thread nD τ) (buf2 t) fullShare (iblk m c 2 t) := by
  unfold Dat.leavesExact; rw [live2 t, after_2]
/-- A point leaves the second weight's buffer at its block. -/
theorem leaves_3 (c : Dev nD) (t : Fin cfg0.N) :
    (dats m 0 c).leavesExact 3 t = owns (c : Thread nD τ) (buf3 t) fullShare (iblk m c 3 t) := by
  unfold Dat.leavesExact; rw [live3 t, after_3]
/-- From point 4 on a point leaves the output's buffer at its tile. -/
theorem leaves_4 (c : Dev nD) (t : Fin cfg0.N) (h : 4 ≤ t.val) :
    (dats m 0 c).leavesExact 4 t = owns (c : Thread nD τ) (buf4 t) fullShare (tileAt m c t) := by
  unfold Dat.leavesExact; rw [live4 t h, after_4]
/-- Before point 4 a point leaves the output's buffer as it was. -/
theorem leaves_4_idle (c : Dev nD) (t : Fin cfg0.N) (h : t.val < 4) :
    (dats m 0 c).leavesExact 4 t = iprop(∃ d, owns (c : Thread nD τ) (buf4 t) fullShare ((dats m 0 c).before 4 t d)) :=
  (dats m 0 c).leavesExact_idle 4 t (idle4 t h) (by rw [flush4 t]; exact decide_eq_false (by omega))

/-! ## One point, inside the run -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2400000 in
/-- The body at any point: the banks' invariant advances by one point, the inputs stay, and from point 4 on the output
block is left at the point's tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, leaves_0, leaves_1, leaves_2, leaves_3]
  rw [show (dats m 0 c).owesAt () t.succ = (dats m 0 c).owesAt () t.castSucc from rfl,
    show (dats m 0 c).Φ t.succ = banksAt m c (t.val + 1) from rfl, show (dats m 0 c).Φ t.castSucc = banksAt m c t.val from rfl]
  unfold banksAt
  have hN : t.val < 36 := t.isLt.trans_eq points
  have eG : gateAt m c t.val = k0_pay2 (iblk m c 2 t) := by unfold gateAt; rw [pt_val]
  have eU : upAt m c t.val = k0_pay3 (iblk m c 2 t) := by unfold upAt; rw [pt_val]
  have eD : downAt m c t.val = k0_pay4 (iblk m c 3 t) := by unfold downAt; rw [pt_val]
  by_cases h32 : t.val < 32
  · by_cases h4 : 4 ≤ t.val
    · rw [leaves_4 m c t h4]
      iintro ⟨⟨⟨%g, %hg, HS0⟩, ⟨%u, %hu, HS1⟩, ⟨%w, %hw, HS2⟩, Hr⟩, Ho, ⟨%d0, H0⟩, ⟨%d1, H1⟩, ⟨%d2, H2⟩, ⟨%d3, H3⟩, ⟨%d4, H4⟩⟩
      have hg' := hg.fill; have hu' := hu.fill; have hw' := hw.fill
      have hb : (t.val / 4 - 1) % 2 < 2 := Nat.mod_lt _ (by decide)
      have bg := hg'.whole (e := t.val / 4 - 1) (by omega) (by omega) (by omega) hb
      have bu := hu'.whole (e := t.val / 4 - 1) (by omega) (by omega) (by omega) hb
      have bw := hw'.whole (e := t.val / 4 - 1) (by omega) (by omega) (by omega) hb
      rw [eG] at bg hg'; rw [eU] at bu hu'; rw [eD] at bw hw'
      iapply ((runBoth c (grid0.coords t) _ _ _ _ _ _ _ _ _ _ _ _ _ _ _ _ ((fills1 t).mpr h32) ((fills2 t).mpr h32) ((computes t).mpr h4)
        (t.val / 4 % 2) ((t.val / 4 - 1) % 2) (t.val % 4) hb (off1_at t h32) (off2_at t h32) (off3_at t h4) (off4_at t h4)
        (iblk m c 0 t) (iblk m c 1 t) (iblk m c 2 t) (iblk m c 3 t) g u w) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      rw [bg, bu, bw]
      iintro ⟨H0, H1, H2, H3, H4, HS0, HS1, HS2⟩
      isplitl [HS0 HS1 HS2 Hr]
      · isplitl [HS0]
        · iexists _; isplitr; · ipureintro; exact hg'
          iexact HS0
        isplitl [HS1]
        · iexists _; isplitr; · ipureintro; exact hu'
          iexact HS1
        isplitl [HS2]
        · iexists _; isplitr; · ipureintro; exact hw'
          iexact HS2
        iexact Hr
      isplitl [Ho]; · iexact Ho
      isplitl [H0]; · iexact H0
      isplitl [H1]; · iexact H1
      isplitl [H2]; · iexact H2
      isplitl [H3]; · iexact H3
      iexact H4
    · rw [leaves_4_idle m c t (by omega)]
      iintro ⟨⟨⟨%g, %hg, HS0⟩, ⟨%u, %hu, HS1⟩, ⟨%w, %hw, HS2⟩, Hr⟩, Ho, ⟨%d0, H0⟩, ⟨%d1, H1⟩, ⟨%d2, H2⟩, ⟨%d3, H3⟩, ⟨%d4, H4⟩⟩
      have hg' := hg.fill; have hu' := hu.fill; have hw' := hw.fill
      rw [eG] at hg'; rw [eU] at hu'; rw [eD] at hw'
      iapply ((runFill c (grid0.coords t) _ _ _ _ _ _ _ _ _ _ _ _ _ _ _ _ ((fills1 t).mpr h32) ((fills2 t).mpr h32) (fun h => h4 ((computes t).mp h))
        (t.val / 4 % 2) (t.val % 4) (off1_at t h32) (off2_at t h32)
        (iblk m c 0 t) (iblk m c 1 t) (iblk m c 2 t) (iblk m c 3 t) ((dats m 0 c).before 4 t d4) g u w) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hr]
      · isplitl [HS0]
        · iexists _; isplitr; · ipureintro; exact hg'
          iexact HS0
        isplitl [HS1]
        · iexists _; isplitr; · ipureintro; exact hu'
          iexact HS1
        isplitl [HS2]
        · iexists _; isplitr; · ipureintro; exact hw'
          iexact HS2
        iexact Hr
      isplitl [Ho]; · iexact Ho
      isplitl [H0]; · iexact H0
      isplitl [H1]; · iexact H1
      isplitl [H2]; · iexact H2
      isplitl [H3]; · iexact H3
      iexists _; iexact H4
  · have h4 : 4 ≤ t.val := by omega
    rw [leaves_4 m c t h4]
    iintro ⟨⟨⟨%g, %hg, HS0⟩, ⟨%u, %hu, HS1⟩, ⟨%w, %hw, HS2⟩, Hr⟩, Ho, ⟨%d0, H0⟩, ⟨%d1, H1⟩, ⟨%d2, H2⟩, ⟨%d3, H3⟩, ⟨%d4, H4⟩⟩
    have hg' := hg.keep (by omega); have hu' := hu.keep (by omega); have hw' := hw.keep (by omega)
    have hb : (t.val / 4 - 1) % 2 < 2 := Nat.mod_lt _ (by decide)
    have bg := hg'.whole (e := t.val / 4 - 1) (by omega) (by omega) (by omega) hb
    have bu := hu'.whole (e := t.val / 4 - 1) (by omega) (by omega) (by omega) hb
    have bw := hw'.whole (e := t.val / 4 - 1) (by omega) (by omega) (by omega) hb
    iapply ((runTile c (grid0.coords t) _ _ _ _ _ _ _ _ _ _ _ _ _ _ _ _ (fun h => h32 ((fills1 t).mp h)) (fun h => h32 ((fills2 t).mp h)) ((computes t).mpr h4)
      ((t.val / 4 - 1) % 2) hb (off3_at t h4) (off4_at t h4)
      (iblk m c 0 t) (iblk m c 1 t) (iblk m c 2 t) (iblk m c 3 t) g u w) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    rw [bg, bu, bw]
    iintro ⟨H0, H1, H2, H3, H4, HS0, HS1, HS2⟩
    isplitl [HS0 HS1 HS2 Hr]
    · isplitl [HS0]
      · iexists _; isplitr; · ipureintro; exact hg'
        iexact HS0
      isplitl [HS1]
      · iexists _; isplitr; · ipureintro; exact hu'
        iexact HS1
      isplitl [HS2]
      · iexists _; isplitr; · ipureintro; exact hw'
        iexact HS2
      iexact Hr
    isplitl [Ho]; · iexact Ho
    isplitl [H0]; · iexact H0
    isplitl [H1]; · iexact H1
    isplitl [H2]; · iexact H2
    isplitl [H3]; · iexact H3
    iexact H4

/-- The body table's row at point `t` is the body at that point's buffers. -/
theorem body_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## Into and out of the region -/

/-- What the region hands over: the three bank pairs at any contents and the generator register. -/
theorem entry_eq (c : Dev nD) :
    (Pipeline.ΦA spec0 c : sProp 𝕄)
      = iprop(iprop((∃ d, owns (c : Thread nD τ) bankG fullShare d) ∗ (∃ d, owns (c : Thread nD τ) bankU fullShare d) ∗ (∃ d, owns (c : Thread nD τ) bankD fullShare d)) ∗ (∃ r, prngReg c r)) := by
  unfold Pipeline.ΦA; rw [scopedRest0_eq]; simp only [bankG, bankU, bankD, owns_whole]; try rfl

/-- What the region hands over starts the banks' invariant. -/
theorem enter (c : Dev nD) : Pipeline.ΦA spec0 c ⊢ (dats (F := F) m 0 c).Φ 0 := by
  rw [entry_eq, show (dats m 0 c).Φ 0 = banksAt m c 0 from rfl]
  unfold banksAt
  iintro ⟨⟨⟨%g, HS0⟩, ⟨%u, HS1⟩, ⟨%w, HS2⟩⟩, Hr⟩
  isplitl [HS0]
  · iexists _; isplitr; · ipureintro; exact ColsHeld.zero _ g
    iexact HS0
  isplitl [HS1]
  · iexists _; isplitr; · ipureintro; exact ColsHeld.zero _ u
    iexact HS1
  isplitl [HS2]
  · iexists _; isplitr; · ipureintro; exact RowsHeld.zero _ w
    iexact HS2
  iexact Hr

/-- After the last point the banks and the register are handed back. -/
theorem leave (c : Dev nD) : (dats (F := F) m 0 c).Φ (Fin.last cfg0.N) ⊢ Pipeline.ΦA spec0 c := by
  rw [entry_eq, show (dats m 0 c).Φ (Fin.last cfg0.N) = banksAt m c cfg0.N from rfl]
  unfold banksAt
  iintro ⟨⟨%g, -, HS0⟩, ⟨%u, -, HS1⟩, ⟨%w, -, HS2⟩, Hr⟩
  isplitl [HS0 HS1 HS2]
  · isplitl [HS0]; · iexists _; iexact HS0
    isplitl [HS1]; · iexists _; iexact HS1
    iexists _; iexact HS2
  iexact Hr

/-! ## The run -/

set_option backward.isDefEq.respectTransparency.types false in
set_option maxHeartbeats 800000 in
/-- Every execution of @main ends with the output array assembled from the tiles, every other array as @main's host lines
leave it, and every semaphore counter at zero. -/
theorem run_quiet : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- Every execution of @main ends with the five arguments unchanged and every semaphore counter at zero. -/
theorem unchanged_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.KernelIdeal.Body

end
-- ==== Proof.Same.lean ====
/-
  The kernel and its idealization are one program, printed twice: so what holds of the one at every reading of the floats
  holds of the other.
-/
module

public import proofs.«01_k».proof.Defs
public import proofs.«01_k».proof.Proof.Gen.Kernel
public import proofs.«01_k».proof.Proof.Launch

@[expose] public section

set_option maxRecDepth 65536

noncomputable section

namespace Cert.Proof

open Idealize.ShloMosaic Idealize.SL.Sem

variable {F : FTy → Type} [FloatOps F]

/-- The two printings have the same kernel body in their tables, -/
theorem bodies_same : Cert.Kernel.defs₀ (F := F) = Cert.KernelIdeal.defs₀ (F := F) := by
  unfold Cert.Kernel.defs₀ Cert.KernelIdeal.defs₀
  refine congrArg Defs.onTc ?_
  funext f x
  match f, x with
  | 0, (t, s) => rfl

/-- the same pipelines over it, -/
theorem tables_same : Cert.Kernel.defs (F := F) = Cert.KernelIdeal.defs (F := F) :=
  congrArg (Pipeline.defs Cert.Kernel.pcfgs) bodies_same

/-- and the same @main. -/
theorem mains_same : Cert.Kernel.main (F := F) = Cert.KernelIdeal.main (F := F) := rfl

/-- The kernel as printed runs, keeps its arguments, and leaves every counter at zero. -/
theorem frame_kernel : Cert.quiescent_Kernel := fun m ρ _ => by
  have h := Cert.KernelIdeal.Body.unchanged_quiet (F := Bits) m ρ
  rw [← mains_same] at h
  rw [← tables_same] at h
  exact h

end Cert.Proof

end
-- ==== Proof.Formula.lean ====
/-
  The mathematics both programs compute, over the extended reals: each expert's tokens through its gate and up columns
  (the even and the odd columns of the first weight), the clipped quick-GEGLU activation times the token's probability,
  and the second weight.
-/
module

public import proofs.«01_k».proof.KernelIdeal
public import Idealize.ShloMosaic.Lib.Pointwise

@[expose] public section

noncomputable section

namespace Cert.Moe

open Idealize.ShloMosaic Cert.KernelIdeal

/-- The activation of one gate value and one up value, times the token's probability: the gate cut off above at 7, times
its logistic at slope 1.702, times one more than the up value clipped to [-7, 7]. -/
def act (g u p : EReal) : EReal :=
  min g (Ideal.ofBits .f32 0x40E00000#32)
      * Ideal.logistic (Ideal.ofBits .f32 0x3FD9DB23#32 * min g (Ideal.ofBits .f32 0x40E00000#32))
      * (min (Ideal.ofBits .f32 0x40E00000#32) (max (Ideal.ofBits .f32 0xC0E00000#32) u) + 1)
    * p

/-- The column of the first weight that feeds gate value `k`, -/
def gateCol (k : Fin 1024) : Fin 2048 := ⟨2 * k.val, by omega⟩
/-- and the one that feeds up value `k`. -/
def upCol (k : Fin 1024) : Fin 2048 := ⟨1 + 2 * k.val, by omega⟩

/-- Column `f` of token `s` of expert `e` after the first weight. -/
def preAct (x w1 : Vec Ideal S8x2048x2048 .f32) (e : Fin 8) (s f : Fin 2048) : EReal :=
  ∑ i : Fin 2048, (x (ix3 e s i) : EReal) * w1 (ix3 e i f)

/-- The whole layer: expert `e`'s token `s` at feature `d`. -/
def layer (x : Vec Ideal S8x2048x2048 .f32) (p : Vec Ideal S8x2048x1 .f32) (w1 : Vec Ideal S8x2048x2048 .f32)
    (w2 : Vec Ideal S8x1024x2048 .f32) : Vec Ideal S8x2048x2048 .f32 := fun y =>
  ∑ k : Fin 1024, act (preAct x w1 (y (0 : Fin 3)) (y (1 : Fin 3)) (gateCol k)) (preAct x w1 (y (0 : Fin 3)) (y (1 : Fin 3)) (upCol k))
    (p (ix3 (y (0 : Fin 3)) (y (1 : Fin 3)) 0)) * w2 (ix3 (y (0 : Fin 3)) k (y (2 : Fin 3)))

end Cert.Moe

end
-- ==== Proof.Payload.lean ====
/-
  What the kernel's stored values are, element by element, over the extended reals: the products with the zero-one
  selectors pick out the even and the odd columns, and a tile is the activation's product with the second weight.
-/
module

public import proofs.«01_k».proof.Proof.Formula
public import proofs.«01_k».proof.Proof.Gen.KernelIdeal.Skeleton

@[expose] public section

set_option maxRecDepth 16384

noncomputable section

namespace Cert.KernelIdeal.Body

open Cert.KernelIdeal.Gen Cert.Moe
open Idealize.ShloMosaic

/-- A comparison's bit, widened to a word and converted, is one where the words agree and zero elsewhere. -/
theorem bit_as_number (a b : BitVec 32) :
    (FloatOps.sitofp .f32 (BitVec.setWidth 32 (IntOp.cmpi .eq a b)) : Ideal .f32) = (if a = b then (1 : EReal) else 0) := by
  show (((BitVec.setWidth 32 (BitVec.ofBool (a == b))).toInt : ℝ) : EReal) = _
  by_cases h : a = b
  · rw [if_pos h, h, beq_self_eq_true, show (BitVec.setWidth 32 (BitVec.ofBool true)).toInt = 1 from by decide]; norm_num
  · rw [if_neg h, beq_eq_false_iff_ne.mpr h, show (BitVec.setWidth 32 (BitVec.ofBool false)).toInt = 0 from by decide]; norm_num

/-- A row times a column holding a single one is the row's entry there. -/
theorem sum_selected (f : Fin 512 → EReal) (a : ℕ → BitVec 32) (b : BitVec 32) (n : Fin 512)
    (h : ∀ k : Fin 512, a k.val = b ↔ k = n) :
    (∑ k : Fin 512, f k * (if a k.val = b then (1 : EReal) else 0)) = f n := by
  rw [Finset.sum_eq_single n (fun k _ hk => by rw [if_neg fun e => hk ((h k).mp e), mul_zero])
    (fun hn => absurd (Finset.mem_univ n) hn), if_pos ((h n).mpr rfl), mul_one]

/-- The even selector's words agree exactly at row `2 j`. -/
theorem even_word (j : Fin 256) (k : Fin 512) :
    BitVec.ofNat 32 k.val = IntOp.muli 2#32 (BitVec.ofNat 32 j.val) ↔ k = ⟨2 * j.val, by omega⟩ := by
  have hk := k.isLt; have hj := j.isLt
  unfold IntOp.muli
  rw [← BitVec.toNat_inj, Fin.ext_iff, BitVec.toNat_mul, BitVec.toNat_ofNat, BitVec.toNat_ofNat, BitVec.toNat_ofNat]
  show _ ↔ k.val = 2 * j.val
  omega

/-- The odd selector's words agree exactly at row `2 j + 1`. -/
theorem odd_word (j : Fin 256) (k : Fin 512) :
    BitVec.ofNat 32 k.val = IntOp.addi (IntOp.muli 2#32 (BitVec.ofNat 32 j.val)) 1#32 ↔ k = ⟨2 * j.val + 1, by omega⟩ := by
  have hk := k.isLt; have hj := j.isLt
  unfold IntOp.muli IntOp.addi
  rw [← BitVec.toNat_inj, Fin.ext_iff, BitVec.toNat_add, BitVec.toNat_mul, BitVec.toNat_ofNat, BitVec.toNat_ofNat, BitVec.toNat_ofNat,
    BitVec.toNat_ofNat]
  show _ ↔ k.val = 2 * j.val + 1
  omega

/-- A gate quarter's column `j` is its block's column `2 j`. -/
theorem pay2_at (x : Vec Ideal S1x2048x512 .f32) (i : Fin 2048) (j : Fin 256) :
    k0_pay2 x (ix3 0 i j) = x (ix3 0 i ⟨2 * j.val, by omega⟩) := by
  pointwise [k0_pay2, k0_pay1]
  simp only [bit_as_number]
  exact sum_selected (fun k => x (ix3 0 i k)) _ _ _ (even_word j)

/-- An up quarter's column `j` is its block's column `2 j + 1`. -/
theorem pay3_at (x : Vec Ideal S1x2048x512 .f32) (i : Fin 2048) (j : Fin 256) :
    k0_pay3 x (ix3 0 i j) = x (ix3 0 i ⟨2 * j.val + 1, by omega⟩) := by
  pointwise [k0_pay3, k0_pay1]
  simp only [bit_as_number]
  exact sum_selected (fun k => x (ix3 0 i k)) _ _ _ (odd_word j)

/-- The second weight's rows are taken as they are. -/
theorem pay4_at (x : Vec Ideal S1x256x2048 .f32) (i : Fin 256) (j : Fin 2048) : k0_pay4 x (ix3 0 i j) = x (ix3 0 i j) := by
  pointwise [k0_pay4]

/-- A tile's element: the activations of row `a` against column `d` of the second weight. -/
theorem pay5_at (x : Vec Ideal S1x512x2048 .f32) (g u : Vec Ideal S1x2048x1024 .bf16) (p : Vec Ideal S1x512x1 .f32)
    (w : Vec Ideal S1x1024x2048 .bf16) (z : Fin 1) (a : Fin 512) (d : Fin 2048) :
    k0_pay5 x g u p w (ix3 z a d)
      = ∑ k : Fin 1024, act (∑ i : Fin 2048, (x (ix3 0 a i) : EReal) * g (ix3 0 i k)) (∑ i : Fin 2048, (x (ix3 0 a i) : EReal) * u (ix3 0 i k))
          (p (ix3 0 a 0)) * w (ix3 0 k d) := by
  unfold act
  pointwise [k0_pay5]

end Cert.KernelIdeal.Body

end
-- ==== Proof.Blocks.lean ====
/-
  Which elements of the arrays each grid point's blocks hold, and what a whole bank holds of the first and second weight.
-/
module

public import proofs.«01_k».proof.Proof.Launch
public import proofs.«01_k».proof.Proof.Payload
public import Idealize.ShloMosaic.Lib.Pipeline.ValueKit

@[expose] public section

set_option maxRecDepth 16384

noncomputable section

namespace Cert.KernelIdeal.Body

open Cert.KernelIdeal.Gen Cert.Moe
open Idealize.ShloMosaic Idealize.ShloMosaic.TcCoe
open Idealize.ShloMosaic.Pipeline (Dat Cfg Window)

/-! ## Where the blocks lie -/

/-- The block of the tokens at each point. -/
theorem index0 : ∀ t : Fin cfg0.N, win0_0.index t = ![t.val / 4 - 1, if t.val < 4 then 0 else t.val % 4, 0] :=
  (by decide +kernel : ∀ t : Fin grid0.N, win0_0.index t = ![t.val / 4 - 1, if t.val < 4 then 0 else t.val % 4, 0])
/-- The block of the probabilities at each point. -/
theorem index1 : ∀ t : Fin cfg0.N, win0_1.index t = ![t.val / 4 - 1, if t.val < 4 then 0 else t.val % 4, 0] :=
  (by decide +kernel : ∀ t : Fin grid0.N, win0_1.index t = ![t.val / 4 - 1, if t.val < 4 then 0 else t.val % 4, 0])
/-- The block of the first weight at each point. -/
theorem index2 : ∀ t : Fin cfg0.N, win0_2.index t = ![min (t.val / 4) 7, 0, if 32 ≤ t.val then 3 else t.val % 4] :=
  (by decide +kernel : ∀ t : Fin grid0.N, win0_2.index t = ![min (t.val / 4) 7, 0, if 32 ≤ t.val then 3 else t.val % 4])
/-- The block of the second weight at each point. -/
theorem index3 : ∀ t : Fin cfg0.N, win0_3.index t = ![min (t.val / 4) 7, if 32 ≤ t.val then 3 else t.val % 4, 0] :=
  (by decide +kernel : ∀ t : Fin grid0.N, win0_3.index t = ![min (t.val / 4) 7, if 32 ≤ t.val then 3 else t.val % 4, 0])
/-- The block of the output at each point. -/
theorem index4 : ∀ t : Fin cfg0.N, win0_4.index t = ![t.val / 4 - 1, if t.val < 4 then 0 else t.val % 4, 0] :=
  (by decide +kernel : ∀ t : Fin grid0.N, win0_4.index t = ![t.val / 4 - 1, if t.val < 4 then 0 else t.val % 4, 0])

/-- The expert whose rows point `t` computes, from point 4 on. -/
def expertOf (t : Fin cfg0.N) : Fin 8 := ⟨t.val / 4 - 1, by have := t.isLt.trans_eq points; omega⟩
/-- The token row `a` of point `t`'s tile is. -/
def tokenOf (t : Fin cfg0.N) (a : Fin 512) : Fin 2048 := ⟨512 * (t.val % 4) + a.val, by omega⟩

variable (m : (ℓ : Loc nD τ sig) → Buf (Elt Ideal) ℓ)

/-- Point `t`'s rows of the tokens. -/
theorem tokens_at (c : Dev nD) (t : Fin cfg0.N) (ht : 4 ≤ t.val) (a : Fin 512) (i : Fin 2048) :
    iblk m c 0 t (ix3 0 a i) = V m c main_v0 (ix3 (expertOf t) (tokenOf t a) i) := by
  have e := index0 t
  rw [if_neg (by omega)] at e
  blk_simp [iblk]
  refine congrArg (V m c main_v0) ?_
  blk_ext [e, expertOf, tokenOf]

/-- Point `t`'s rows of the probabilities. -/
theorem probs_at (c : Dev nD) (t : Fin cfg0.N) (ht : 4 ≤ t.val) (a : Fin 512) :
    iblk m c 1 t (ix3 0 a 0) = V m c main_v1 (ix3 (expertOf t) (tokenOf t a) 0) := by
  have e := index1 t
  rw [if_neg (by omega)] at e
  blk_simp [iblk]
  refine congrArg (V m c main_v1) ?_
  blk_ext [e, expertOf, tokenOf]

/-- A filling point's columns of the first weight. -/
theorem first_at (c : Dev nD) (e : Fin 8) (q : Fin 4) (i : Fin 2048) (j : Fin 512) :
    iblk m c 2 (pt (4 * e.val + q.val)) (ix3 0 i j) = m ((c : Thread nD τ).loc main_arg3) (ix3 e i ⟨512 * q.val + j.val, by omega⟩) := by
  have h := index2 (pt (4 * e.val + q.val))
  have hv : (pt (4 * e.val + q.val)).val = 4 * e.val + q.val := pt_lt (by omega)
  rw [hv, if_neg (by omega), show min ((4 * e.val + q.val) / 4) 7 = e.val from by omega, show (4 * e.val + q.val) % 4 = q.val from by omega] at h
  rw [← V_main_arg3 m c]
  blk_simp [iblk]
  refine congrArg (V m c main_arg3) ?_
  blk_ext [h]

/-- A filling point's rows of the second weight. -/
theorem second_at (c : Dev nD) (e : Fin 8) (q : Fin 4) (i : Fin 256) (j : Fin 2048) :
    iblk m c 3 (pt (4 * e.val + q.val)) (ix3 0 i j) = m ((c : Thread nD τ).loc main_arg4) (ix3 e ⟨256 * q.val + i.val, by omega⟩ j) := by
  have h := index3 (pt (4 * e.val + q.val))
  have hv : (pt (4 * e.val + q.val)).val = 4 * e.val + q.val := pt_lt (by omega)
  rw [hv, if_neg (by omega), show min ((4 * e.val + q.val) / 4) 7 = e.val from by omega, show (4 * e.val + q.val) % 4 = q.val from by omega] at h
  rw [← V_main_arg4 m c]
  blk_simp [iblk]
  refine congrArg (V m c main_arg4) ?_
  blk_ext [h]

/-! ## What a whole bank holds -/

/-- Expert `e`'s gate matrix is the even columns of its first weight. -/
theorem gate_matrix (c : Dev nD) (e : Fin 8) (i : Fin 2048) (k : Fin 1024) :
    wholeCols (gateAt m c) e.val (ix3 0 i k) = m ((c : Thread nD τ).loc main_arg3) (ix3 e i (gateCol k)) := by
  have hk : k.val / 256 < 4 := by omega
  show k0_pay2 (iblk m c 2 (pt (4 * e.val + k.val / 256))) (ix3 0 i ⟨k.val % 256, _⟩) = _
  refine (pay2_at _ i _).trans ((first_at m c e ⟨k.val / 256, hk⟩ i _).trans ?_)
  refine congrArg (fun j => m ((c : Thread nD τ).loc main_arg3) (ix3 e i j)) (Fin.ext ?_)
  show 512 * (k.val / 256) + 2 * (k.val % 256) = 2 * k.val
  omega

/-- Expert `e`'s up matrix is the odd columns of its first weight. -/
theorem up_matrix (c : Dev nD) (e : Fin 8) (i : Fin 2048) (k : Fin 1024) :
    wholeCols (upAt m c) e.val (ix3 0 i k) = m ((c : Thread nD τ).loc main_arg3) (ix3 e i (upCol k)) := by
  have hk : k.val / 256 < 4 := by omega
  show k0_pay3 (iblk m c 2 (pt (4 * e.val + k.val / 256))) (ix3 0 i ⟨k.val % 256, _⟩) = _
  refine (pay3_at _ i _).trans ((first_at m c e ⟨k.val / 256, hk⟩ i _).trans ?_)
  refine congrArg (fun j => m ((c : Thread nD τ).loc main_arg3) (ix3 e i j)) (Fin.ext ?_)
  show 512 * (k.val / 256) + (2 * (k.val % 256) + 1) = 1 + 2 * k.val
  omega

/-- Expert `e`'s second weight, whole. -/
theorem down_matrix (c : Dev nD) (e : Fin 8) (k : Fin 1024) (d : Fin 2048) :
    wholeRows (downAt m c) e.val (ix3 0 k d) = m ((c : Thread nD τ).loc main_arg4) (ix3 e k d) := by
  have hk : k.val / 256 < 4 := by omega
  show k0_pay4 (iblk m c 3 (pt (4 * e.val + k.val / 256))) (ix3 0 ⟨k.val % 256, _⟩ d) = _
  refine (pay4_at _ _ d).trans ((second_at m c e ⟨k.val / 256, hk⟩ _ d).trans ?_)
  refine congrArg (fun j => m ((c : Thread nD τ).loc main_arg4) (ix3 e j d)) (Fin.ext ?_)
  show 256 * (k.val / 256) + k.val % 256 = k.val
  omega

/-! ## What a tile holds -/

/-- From point 4 on, a point's tile is the layer at its expert and its tokens. -/
theorem tile_at (c : Dev nD) (t : Fin cfg0.N) (ht : 4 ≤ t.val) (z : Fin 1) (a : Fin 512) (d : Fin 2048) :
    tileAt m c t (ix3 z a d)
      = layer (V m c main_v0) (V m c main_v1) (m ((c : Thread nD τ).loc main_arg3)) (m ((c : Thread nD τ).loc main_arg4))
          (ix3 (expertOf t) (tokenOf t a) d) := by
  unfold tileAt
  refine (pay5_at _ _ _ _ _ z a d).trans ?_
  show _ = ∑ k : Fin 1024, act (preAct _ _ (expertOf t) (tokenOf t a) (gateCol k)) (preAct _ _ (expertOf t) (tokenOf t a) (upCol k))
    (V m c main_v1 (ix3 (expertOf t) (tokenOf t a) 0)) * m ((c : Thread nD τ).loc main_arg4) (ix3 (expertOf t) k d)
  refine Finset.sum_congr rfl fun k _ => ?_
  rw [probs_at m c t ht a, show t.val / 4 - 1 = (expertOf t).val from rfl, down_matrix m c (expertOf t) k d]
  unfold preAct
  simp only [gate_matrix m c (expertOf t), up_matrix m c (expertOf t), tokens_at m c t ht a]

end Cert.KernelIdeal.Body

end
-- ==== Proof.Result.lean ====
/-
  The kernel's run, with its result: the output array is the layer of the tokens, and @main's result its rows in order.
-/
module

public import proofs.«01_k».proof.Proof.Blocks

@[expose] public section

set_option maxRecDepth 16384

noncomputable section

namespace Cert.KernelIdeal.Body

open Cert.KernelIdeal.Gen Cert.Moe
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- After the run the output array is the layer: the tiles flushed from point 4 on cover it. -/
theorem output_eq (c : Dev nD) :
    (dats m 0 c).arrAt 4 cfg0.N
      = layer (V m c main_v0) (V m c main_v1) (m ((c : Thread nD τ).loc main_arg3)) (m ((c : Thread nD τ).loc main_arg4)) := by
  refine (dats m 0 c).arrAt_eq_of_covers 4 _ (by decide +kernel) fun t hf y => ?_
  have ht : 4 ≤ t.val := of_decide_eq_true ((flush4 t).symm.trans hf)
  have e := index4 t
  rw [if_neg (by omega)] at e
  blk_simp
  rw [after_4]
  idx_vars y
  refine (tile_at m c t ht y0 y1 y2).trans ?_
  refine congrArg (layer _ _ _ _) ?_
  blk_ext [e, expertOf, tokenOf]

/-- The region finds the tokens grouped by expert, -/
theorem entry_tokens (c : Dev nD) :
    V m c main_v0 = shapeCast S8x2048x2048 (m ((c : Thread nD τ).loc main_arg0)) shapeCasts_S16384x2048_S8x2048x2048 := by
  unfold V V0
  rw [show [hostOps0 (F := Ideal)].flatten = hostOps0 from rfl]
  unfold hostOps0
  after_results
  rfl
/-- and the probabilities likewise. -/
theorem entry_probs (c : Dev nD) :
    V m c main_v1 = shapeCast S8x2048x1 (m ((c : Thread nD τ).loc main_arg2)) shapeCasts_S16384x1_S8x2048x1 := by
  unfold V V0
  rw [show [hostOps0 (F := Ideal)].flatten = hostOps0 from rfl]
  unfold hostOps0
  after_results
  rfl

/-- The layer of the launch's arguments, its experts' rows one under the other. -/
def resultOf (c : Dev nD) : Vec Ideal S16384x2048 .f32 :=
  shapeCast S16384x2048 (layer (shapeCast S8x2048x2048 (m ((c : Thread nD τ).loc main_arg0)) shapeCasts_S16384x2048_S8x2048x2048)
    (shapeCast S8x2048x1 (m ((c : Thread nD τ).loc main_arg2)) shapeCasts_S16384x1_S8x2048x1)
    (m ((c : Thread nD τ).loc main_arg3)) (m ((c : Thread nD τ).loc main_arg4))) shapeCasts_S8x2048x2048_S16384x2048

/-- Every execution of @main ends with its result at `resultOf`, the arguments unchanged. -/
theorem run_result : θ_run defs (onTc (τ := τ) (main (F := Ideal))) ⟨m, fun _ => 0, ρ⟩ (fun r => ∀ c : Dev nD,
      r.2.mem ((c.tc : Thread nD τ).loc main_v3) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h : θ_run defs (onTc (τ := τ) (main (F := Ideal))) ⟨m, fun _ => 0, ρ⟩
      (Pipeline.FramePost cfgs (dats m) 0 (Pipeline.afterTail₀ cfgs (dats m) 0 (V0 m) [hostOps1])) :=
    (θ_run defs _ _).mono (fun _ h => h.1) (run_quiet m ρ)
  refine θ_run_mono (θ_run_and h (θ_run_mono (unchanged_quiet m ρ) fun _ h => h.1)) fun r hr c => ⟨?_, hr.2 c⟩
  refine (hr.1.rest_eq c main_v3 (by decide)).trans ?_
  unfold Pipeline.afterTail₀ resultOf
  rw [show [hostOps1 (F := Ideal)].flatten = hostOps1 from rfl]
  unfold hostOps1
  after_results
  refine congrArg (fun x => shapeCast S16384x2048 x shapeCasts_S8x2048x2048_S16384x2048) ?_
  refine (Pipeline.withArrays_arr spec0 (by decide) c (V0 m c) (fun w => (dats m 0 c).arrAt w cfg0.N) 4).trans ?_
  rw [output_eq m c, entry_tokens, entry_probs]

end Cert.KernelIdeal.Body

end
-- ==== Proof.Reference.lean ====
/-
  The reference's run: its result is the layer of its arguments, the experts' rows one under the other, and every
  semaphore ends at zero.
-/
module

public import proofs.«01_k».proof.Proof.Formula
public import proofs.«01_k».proof.Proof.Gen.ReferenceIdeal.Run
public import Idealize.ShloMosaic.Lib.Claim

@[expose] public section

set_option maxRecDepth 16384

noncomputable section

namespace Cert.ReferenceIdeal.Body

open Cert.ReferenceIdeal Cert.ReferenceIdeal.Gen Cert.Moe
open Idealize.ShloMosaic Idealize.ShloMosaic.TcCoe Idealize.SL.Sem

/-- The tokens, grouped by expert, times the first weight. -/
abbrev first (x w1 : FVec Ideal S8x2048x2048 .f32) : FVec Ideal S8x2048x2048 .f32 :=
  Host.dotGeneral dot_S8x2048x2048_S8x2048x2048_S8x2048x2048_2_1_1_2_0_0 none x w1

/-- One number everywhere. -/
abbrev splat (b : BitVec 32) : FVec Ideal S8x2048x1024 .f32 :=
  broadcastInDim S8x2048x1024 ![] bcast_S_S8x2048x1024 (constant (F := Ideal) S_ .f32 b)

/-- The reference's gate values, cut off above. -/
abbrev gates (h : FVec Ideal S8x2048x2048 .f32) : FVec Ideal S8x2048x1024 .f32 :=
  minimumf (Host.slice S8x2048x1024 ![0, 0, 0] ![1, 1, 2] h slicesBy_S8x2048x2048_S8x2048x1024_0s1_0s1_0s2) (splat 0x40E00000#32)

/-- The reference's activations. -/
abbrev acts (h : FVec Ideal S8x2048x2048 .f32) (p : FVec Ideal S8x2048x1 .f32) : FVec Ideal S8x2048x1024 .f32 :=
  mulf (mulf (mulf (gates h)
        (Host.divf (splat 0x3F800000#32) (addf (splat 0x3F800000#32) (Host.exp (Host.negf (mulf (splat 0x3FD9DB23#32) (gates h)))))))
      (addf (minimumf (splat 0x40E00000#32) (maximumf (splat 0xC0E00000#32)
          (Host.slice S8x2048x1024 ![0, 0, 1] ![1, 1, 2] h slicesBy_S8x2048x2048_S8x2048x1024_0s1_0s1_1s2))) (splat 0x3F800000#32)))
    (broadcastInDim S8x2048x1024 ![0, 1, 2] bcast_S8x2048x1_S8x2048x1024_0_1_2 p)

/-- The reference's activations, element by element. -/
theorem acts_at (x w1 : FVec Ideal S8x2048x2048 .f32) (p : FVec Ideal S8x2048x1 .f32) (e : Fin 8) (s : Fin 2048) (k : Fin 1024) :
    acts (first x w1) p (ix3 e s k) = act (preAct x w1 e s (gateCol k)) (preAct x w1 e s (upCol k)) (p (ix3 e s 0)) := by
  unfold act preAct gateCol upCol Ideal.logistic
  pointwise [acts, gates, first]

/-- The reference's last product is the layer. -/
theorem second_eq (x w1 : FVec Ideal S8x2048x2048 .f32) (p : FVec Ideal S8x2048x1 .f32) (w2 : FVec Ideal S8x1024x2048 .f32) :
    (Host.dotGeneral dot_S8x2048x1024_S8x1024x2048_S8x2048x2048_2_1_1_2_0_0 none (acts (first x w1) p) w2 : FVec Ideal S8x2048x2048 .f32)
      = layer x p w1 w2 := by
  funext y
  idx_vars y
  generalize ha : acts (first x w1) p = a
  pointwise
  subst ha
  exact Finset.sum_congr rfl fun k _ => congrArg (· * w2 (ix3 y0 k y2)) (acts_at x w1 p y0 y1 k)

variable (m : (ℓ : Loc nD τ sig) → Buf (Elt Ideal) ℓ) (ρ : Dev nD → PrngReg)

/-- The layer of the launch's arguments, its experts' rows one under the other. -/
def resultOf (c : Dev nD) : Vec Ideal S16384x2048 .f32 :=
  shapeCast S16384x2048 (layer (shapeCast S8x2048x2048 (m ((c : Thread nD τ).loc main_arg0)) shapeCasts_S16384x2048_S8x2048x2048)
    (shapeCast S8x2048x1 (m ((c : Thread nD τ).loc main_arg2)) shapeCasts_S16384x1_S8x2048x1)
    (m ((c : Thread nD τ).loc main_arg3)) (m ((c : Thread nD τ).loc main_arg4))) shapeCasts_S8x2048x2048_S16384x2048

/-- Every execution of the reference ends with its result at `resultOf`, the arguments unchanged. -/
theorem run_result : θ_run defs (onTc (τ := τ) (main (F := Ideal))) ⟨m, fun _ => 0, ρ⟩ (fun r => ∀ c : Dev nD,
      r.2.mem ((c.tc : Thread nD τ).loc main_v23) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (Cert.ReferenceIdeal.Value.run m ρ) fun r hr c =>
    ⟨(hr c).1.trans (congrArg (fun x => shapeCast S16384x2048 x shapeCasts_S8x2048x2048_S16384x2048) (second_eq _ _ _ _)), (hr c).2⟩

/-- Every execution of the reference ends with its arguments unchanged and every semaphore counter at zero. -/
theorem unchanged_quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (Cert.ReferenceIdeal.Value.run m ρ) fun r hr => ⟨fun c => (hr c).2, sem_eq_zero_of_no_sems (by decide) r.2⟩

end Cert.ReferenceIdeal.Body

end
-- ==== Proof.lean ====
/-
  The five claims, put together: the kernel's and its idealization's frames, the reference's frame, the idealization
  keeping the program, and the equation of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Result
public import proofs.«01_k».proof.Proof.Reference
public import Idealize.ShloMosaic.Adequacy
public import Idealize.ShloMosaic.Init

@[expose] public section

noncomputable section

namespace Cert.Proof

open Idealize.ShloMosaic Idealize.SL.Sem

/-- The kernel's idealization runs, keeps its arguments, and leaves every counter at zero. -/
theorem frame_ideal : Cert.quiescent_KernelIdeal := fun m ρ _ => Cert.KernelIdeal.Body.unchanged_quiet m ρ

/-- So does the reference. -/
theorem frame_reference : Cert.quiescent_ReferenceIdeal := fun m ρ _ => Cert.ReferenceIdeal.Body.unchanged_quiet m ρ

/-- The idealization rewrote nothing. -/
theorem kept : Cert.preserves_Kernel_KernelIdeal := trivial

/-- From equal arguments the two results are one and the same array of the arguments. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Body.resultOf m' c = Cert.KernelIdeal.Body.resultOf m c := by
  unfold Cert.ReferenceIdeal.Body.resultOf Cert.KernelIdeal.Body.resultOf
  rw [h0, h2, h3, h4]

/-- The kernel's idealization and the reference end with equal results. -/
theorem equal_results : Cert.algebraic_KernelIdeal_ReferenceIdeal := fun m ρ m' ρ' _ hagree =>
  ⟨fun c => Cert.KernelIdeal.Body.resultOf m c, Cert.KernelIdeal.Body.run_result m ρ,
    θ_run_mono (Cert.ReferenceIdeal.Body.run_result m' ρ') fun _ hr c =>
      ⟨(hr c).1.trans (same_result m m' c (hagree c).1 (hagree c).2.2.1 (hagree c).2.2.2.1 (hagree c).2.2.2.2), (hr c).2⟩⟩

/-- All that is claimed. -/
theorem claim : Cert.Claim :=
  ⟨Cert.Kernel.Gen.facts, Cert.KernelIdeal.Gen.facts, Cert.ReferenceIdeal.Gen.facts,
    frame_kernel, frame_ideal, frame_reference, kept, equal_results⟩

end Cert.Proof

end
